-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v104) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x96x64x64 : Shape := ⟨4, ![16, 96, 64, 64]⟩
abbrev S16x192x32x32 : Shape := ⟨4, ![16, 192, 32, 32]⟩
abbrev S16x384x16x16 : Shape := ⟨4, ![16, 384, 16, 16]⟩
abbrev S255x96 : Shape := ⟨2, ![255, 96]⟩
abbrev S255 : Shape := ⟨1, ![255]⟩
abbrev S255x192 : Shape := ⟨2, ![255, 192]⟩
abbrev S255x384 : Shape := ⟨2, ![255, 384]⟩
abbrev S3x1x85 : Shape := ⟨3, ![3, 1, 85]⟩
abbrev S85 : Shape := ⟨1, ![85]⟩
abbrev S1x1x85 : Shape := ⟨3, ![1, 1, 85]⟩
abbrev S16x96x4096 : Shape := ⟨3, ![16, 96, 4096]⟩
abbrev S3x85x96 : Shape := ⟨3, ![3, 85, 96]⟩
abbrev S3x96x85 : Shape := ⟨3, ![3, 96, 85]⟩
abbrev S16x3x4096x85 : Shape := ⟨4, ![16, 3, 4096, 85]⟩
abbrev S16x3x64x64x85 : Shape := ⟨5, ![16, 3, 64, 64, 85]⟩
abbrev S1x96x4096 : Shape := ⟨3, ![1, 96, 4096]⟩
abbrev S1x3x4096x85 : Shape := ⟨4, ![1, 3, 4096, 85]⟩
abbrev S96x4096 : Shape := ⟨2, ![96, 4096]⟩
abbrev S1x96x85 : Shape := ⟨3, ![1, 96, 85]⟩
abbrev S96x85 : Shape := ⟨2, ![96, 85]⟩
abbrev S4096x85 : Shape := ⟨2, ![4096, 85]⟩
abbrev S1x85 : Shape := ⟨2, ![1, 85]⟩
abbrev S1x1x4096x85 : Shape := ⟨4, ![1, 1, 4096, 85]⟩
abbrev S16x192x1024 : Shape := ⟨3, ![16, 192, 1024]⟩
abbrev S3x85x192 : Shape := ⟨3, ![3, 85, 192]⟩
abbrev S3x192x85 : Shape := ⟨3, ![3, 192, 85]⟩
abbrev S16x3x1024x85 : Shape := ⟨4, ![16, 3, 1024, 85]⟩
abbrev S16x3x32x32x85 : Shape := ⟨5, ![16, 3, 32, 32, 85]⟩
abbrev S2x192x1024 : Shape := ⟨3, ![2, 192, 1024]⟩
abbrev S2x3x1024x85 : Shape := ⟨4, ![2, 3, 1024, 85]⟩
abbrev S1x192x1024 : Shape := ⟨3, ![1, 192, 1024]⟩
abbrev S192x1024 : Shape := ⟨2, ![192, 1024]⟩
abbrev S1x192x85 : Shape := ⟨3, ![1, 192, 85]⟩
abbrev S192x85 : Shape := ⟨2, ![192, 85]⟩
abbrev S1024x85 : Shape := ⟨2, ![1024, 85]⟩
abbrev S1x1x1024x85 : Shape := ⟨4, ![1, 1, 1024, 85]⟩
abbrev S16x384x256 : Shape := ⟨3, ![16, 384, 256]⟩
abbrev S3x85x384 : Shape := ⟨3, ![3, 85, 384]⟩
abbrev S3x384x85 : Shape := ⟨3, ![3, 384, 85]⟩
abbrev S16x3x256x85 : Shape := ⟨4, ![16, 3, 256, 85]⟩
abbrev S16x3x16x16x85 : Shape := ⟨5, ![16, 3, 16, 16, 85]⟩
abbrev S8x384x256 : Shape := ⟨3, ![8, 384, 256]⟩
abbrev S8x3x256x85 : Shape := ⟨4, ![8, 3, 256, 85]⟩
abbrev S1x384x256 : Shape := ⟨3, ![1, 384, 256]⟩
abbrev S384x256 : Shape := ⟨2, ![384, 256]⟩
abbrev S1x384x85 : Shape := ⟨3, ![1, 384, 85]⟩
abbrev S384x85 : Shape := ⟨2, ![384, 85]⟩
abbrev S256x85 : Shape := ⟨2, ![256, 85]⟩
abbrev S1x1x256x85 : Shape := ⟨4, ![1, 1, 256, 85]⟩

abbrev nBuf : Space → Nat
  | .hbm => 54
  | .vmem => 21
  | .smem => 0
  | _ => 0

abbrev bufTy : (tb : Table) → Fin (tcTables nBuf tb) → BufTy
  | .hbm, ⟨0, _⟩ => ⟨S16x96x64x64, .f32⟩
  | .hbm, ⟨1, _⟩ => ⟨S16x192x32x32, .f32⟩
  | .hbm, ⟨2, _⟩ => ⟨S16x384x16x16, .f32⟩
  | .hbm, ⟨3, _⟩ => ⟨S255x96, .f32⟩
  | .hbm, ⟨4, _⟩ => ⟨S255, .f32⟩
  | .hbm, ⟨5, _⟩ => ⟨S255x192, .f32⟩
  | .hbm, ⟨6, _⟩ => ⟨S255, .f32⟩
  | .hbm, ⟨7, _⟩ => ⟨S255x384, .f32⟩
  | .hbm, ⟨8, _⟩ => ⟨S255, .f32⟩
  | .hbm, ⟨9, _⟩ => ⟨S3x1x85, .f32⟩
  | .hbm, ⟨10, _⟩ => ⟨S3x1x85, .f32⟩
  | .hbm, ⟨11, _⟩ => ⟨S3x1x85, .f32⟩
  | .hbm, ⟨12, _⟩ => ⟨S85, .f32⟩
  | .hbm, ⟨13, _⟩ => ⟨S1x1x85, .f32⟩
  | .hbm, ⟨14, _⟩ => ⟨S85, .f32⟩
  | .hbm, ⟨15, _⟩ => ⟨S1x1x85, .f32⟩
  | .hbm, ⟨16, _⟩ => ⟨S16x96x4096, .f32⟩
  | .hbm, ⟨17, _⟩ => ⟨S3x85x96, .f32⟩
  | .hbm, ⟨18, _⟩ => ⟨S3x96x85, .f32⟩
  | .hbm, ⟨19, _⟩ => ⟨S3x96x85, .f32⟩
  | .hbm, ⟨20, _⟩ => ⟨S3x96x85, .f32⟩
  | .hbm, ⟨21, _⟩ => ⟨S3x1x85, .f32⟩
  | .hbm, ⟨22, _⟩ => ⟨S3x1x85, .f32⟩
  | .hbm, ⟨23, _⟩ => ⟨S3x1x85, .f32⟩
  | .hbm, ⟨24, _⟩ => ⟨S16x3x4096x85, .f32⟩
  | .hbm, ⟨25, _⟩ => ⟨S16x3x64x64x85, .f32⟩
  | .hbm, ⟨26, _⟩ => ⟨S85, .f32⟩
  | .hbm, ⟨27, _⟩ => ⟨S1x1x85, .f32⟩
  | .hbm, ⟨28, _⟩ => ⟨S85, .f32⟩
  | .hbm, ⟨29, _⟩ => ⟨S1x1x85, .f32⟩
  | .hbm, ⟨30, _⟩ => ⟨S16x192x1024, .f32⟩
  | .hbm, ⟨31, _⟩ => ⟨S3x85x192, .f32⟩
  | .hbm, ⟨32, _⟩ => ⟨S3x192x85, .f32⟩
  | .hbm, ⟨33, _⟩ => ⟨S3x192x85, .f32⟩
  | .hbm, ⟨34, _⟩ => ⟨S3x192x85, .f32⟩
  | .hbm, ⟨35, _⟩ => ⟨S3x1x85, .f32⟩
  | .hbm, ⟨36, _⟩ => ⟨S3x1x85, .f32⟩
  | .hbm, ⟨37, _⟩ => ⟨S3x1x85, .f32⟩
  | .hbm, ⟨38, _⟩ => ⟨S16x3x1024x85, .f32⟩
  | .hbm, ⟨39, _⟩ => ⟨S16x3x32x32x85, .f32⟩
  | .hbm, ⟨40, _⟩ => ⟨S85, .f32⟩
  | .hbm, ⟨41, _⟩ => ⟨S1x1x85, .f32⟩
  | .hbm, ⟨42, _⟩ => ⟨S85, .f32⟩
  | .hbm, ⟨43, _⟩ => ⟨S1x1x85, .f32⟩
  | .hbm, ⟨44, _⟩ => ⟨S16x384x256, .f32⟩
  | .hbm, ⟨45, _⟩ => ⟨S3x85x384, .f32⟩
  | .hbm, ⟨46, _⟩ => ⟨S3x384x85, .f32⟩
  | .hbm, ⟨47, _⟩ => ⟨S3x384x85, .f32⟩
  | .hbm, ⟨48, _⟩ => ⟨S3x384x85, .f32⟩
  | .hbm, ⟨49, _⟩ => ⟨S3x1x85, .f32⟩
  | .hbm, ⟨50, _⟩ => ⟨S3x1x85, .f32⟩
  | .hbm, ⟨51, _⟩ => ⟨S3x1x85, .f32⟩
  | .hbm, ⟨52, _⟩ => ⟨S16x3x256x85, .f32⟩
  | .hbm, ⟨53, _⟩ => ⟨S16x3x16x16x85, .f32⟩
  | .local _ .vmem, ⟨0, _⟩ => ⟨S1x96x4096, .f32⟩
  | .local _ .vmem, ⟨1, _⟩ => ⟨S1x96x4096, .f32⟩
  | .local _ .vmem, ⟨2, _⟩ => ⟨S3x96x85, .f32⟩
  | .local _ .vmem, ⟨3, _⟩ => ⟨S3x1x85, .f32⟩
  | .local _ .vmem, ⟨4, _⟩ => ⟨S3x1x85, .f32⟩
  | .local _ .vmem, ⟨5, _⟩ => ⟨S1x3x4096x85, .f32⟩
  | .local _ .vmem, ⟨6, _⟩ => ⟨S1x3x4096x85, .f32⟩
  | .local _ .vmem, ⟨7, _⟩ => ⟨S2x192x1024, .f32⟩
  | .local _ .vmem, ⟨8, _⟩ => ⟨S2x192x1024, .f32⟩
  | .local _ .vmem, ⟨9, _⟩ => ⟨S3x192x85, .f32⟩
  | .local _ .vmem, ⟨10, _⟩ => ⟨S3x1x85, .f32⟩
  | .local _ .vmem, ⟨11, _⟩ => ⟨S3x1x85, .f32⟩
  | .local _ .vmem, ⟨12, _⟩ => ⟨S2x3x1024x85, .f32⟩
  | .local _ .vmem, ⟨13, _⟩ => ⟨S2x3x1024x85, .f32⟩
  | .local _ .vmem, ⟨14, _⟩ => ⟨S8x384x256, .f32⟩
  | .local _ .vmem, ⟨15, _⟩ => ⟨S8x384x256, .f32⟩
  | .local _ .vmem, ⟨16, _⟩ => ⟨S3x384x85, .f32⟩
  | .local _ .vmem, ⟨17, _⟩ => ⟨S3x1x85, .f32⟩
  | .local _ .vmem, ⟨18, _⟩ => ⟨S3x1x85, .f32⟩
  | .local _ .vmem, ⟨19, _⟩ => ⟨S8x3x256x85, .f32⟩
  | .local _ .vmem, ⟨20, _⟩ => ⟨S8x3x256x85, .f32⟩
  | _, _ => ⟨S16x96x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_cst_1 : Ref sig .tc := ⟨.hbm, 11, rfl⟩
abbrev main_call0_cst : Ref sig .tc := ⟨.hbm, 12, rfl⟩
abbrev main_call0_v0 : Ref sig .tc := ⟨.hbm, 13, rfl⟩
abbrev main_call0_cst_0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_v0 : Ref sig .tc := ⟨.hbm, 25, rfl⟩
abbrev main_call1_cst : Ref sig .tc := ⟨.hbm, 26, rfl⟩
abbrev main_call1_v0 : Ref sig .tc := ⟨.hbm, 27, rfl⟩
abbrev main_call1_cst_0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_v1 : Ref sig .tc := ⟨.hbm, 39, rfl⟩
abbrev main_call2_cst : Ref sig .tc := ⟨.hbm, 40, rfl⟩
abbrev main_call2_v0 : Ref sig .tc := ⟨.hbm, 41, rfl⟩
abbrev main_call2_cst_0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_v6 : Ref sig .tc := ⟨.hbm, 48, rfl⟩
abbrev main_call2_v7 : Ref sig .tc := ⟨.hbm, 49, rfl⟩
abbrev main_call2_v8 : Ref sig .tc := ⟨.hbm, 50, rfl⟩
abbrev main_call2_v9 : Ref sig .tc := ⟨.hbm, 51, rfl⟩
abbrev main_call2_v10 : Ref sig .tc := ⟨.hbm, 52, rfl⟩
abbrev main_v2 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x96x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x96x85 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x1x85 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1x85 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x3x4096x85 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S2x192x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x192x85 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S3x1x85 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3x1x85 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2x3x1024x85 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![2], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S8x384x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S3x384x85 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S3x1x85 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S3x1x85 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S8x3x256x85 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== ReferenceIdeal.lean ====
abbrev S16x96x64x64 : Shape := ⟨4, ![16, 96, 64, 64]⟩
abbrev S16x192x32x32 : Shape := ⟨4, ![16, 192, 32, 32]⟩
abbrev S16x384x16x16 : Shape := ⟨4, ![16, 384, 16, 16]⟩
abbrev S255x96 : Shape := ⟨2, ![255, 96]⟩
abbrev S255 : Shape := ⟨1, ![255]⟩
abbrev S255x192 : Shape := ⟨2, ![255, 192]⟩
abbrev S255x384 : Shape := ⟨2, ![255, 384]⟩
abbrev S3x3x2 : Shape := ⟨3, ![3, 3, 2]⟩
abbrev S1x3x2 : Shape := ⟨3, ![1, 3, 2]⟩
abbrev S3x2 : Shape := ⟨2, ![3, 2]⟩
abbrev S255x16x64x64 : Shape := ⟨4, ![255, 16, 64, 64]⟩
abbrev S16x255x64x64 : Shape := ⟨4, ![16, 255, 64, 64]⟩
abbrev S1x255x1x1 : Shape := ⟨4, ![1, 255, 1, 1]⟩
abbrev S16x3x85x64x64 : Shape := ⟨5, ![16, 3, 85, 64, 64]⟩
abbrev S16x3x64x64x85 : Shape := ⟨5, ![16, 3, 64, 64, 85]⟩
abbrev S16x3x64x64x2 : Shape := ⟨5, ![16, 3, 64, 64, 2]⟩
abbrev S16x3x64x64x81 : Shape := ⟨5, ![16, 3, 64, 64, 81]⟩
abbrev S_ : Shape := ⟨0, ![]⟩
abbrev S1x3x1x1x2 : Shape := ⟨5, ![1, 3, 1, 1, 2]⟩
abbrev S255x16x32x32 : Shape := ⟨4, ![255, 16, 32, 32]⟩
abbrev S16x255x32x32 : Shape := ⟨4, ![16, 255, 32, 32]⟩
abbrev S16x3x85x32x32 : Shape := ⟨5, ![16, 3, 85, 32, 32]⟩
abbrev S16x3x32x32x85 : Shape := ⟨5, ![16, 3, 32, 32, 85]⟩
abbrev S16x3x32x32x2 : Shape := ⟨5, ![16, 3, 32, 32, 2]⟩
abbrev S16x3x32x32x81 : Shape := ⟨5, ![16, 3, 32, 32, 81]⟩
abbrev S255x16x16x16 : Shape := ⟨4, ![255, 16, 16, 16]⟩
abbrev S16x255x16x16 : Shape := ⟨4, ![16, 255, 16, 16]⟩
abbrev S16x3x85x16x16 : Shape := ⟨5, ![16, 3, 85, 16, 16]⟩
abbrev S16x3x16x16x85 : Shape := ⟨5, ![16, 3, 16, 16, 85]⟩
abbrev S16x3x16x16x2 : Shape := ⟨5, ![16, 3, 16, 16, 2]⟩
abbrev S16x3x16x16x81 : Shape := ⟨5, ![16, 3, 16, 16, 81]⟩

abbrev nBuf : Space → Nat
  | .hbm => 136
  | .vmem => 0
  | .smem => 0
  | _ => 0

abbrev hbmTy0_0 (i : Nat) : BufTy := match i % 128 with
  | 0 => ⟨S16x96x64x64, .f32⟩
  | 1 => ⟨S16x192x32x32, .f32⟩
  | 2 => ⟨S16x384x16x16, .f32⟩
  | 3 => ⟨S255x96, .f32⟩
  | 4 => ⟨S255, .f32⟩
  | 5 => ⟨S255x192, .f32⟩
  | 6 => ⟨S255, .f32⟩
  | 7 => ⟨S255x384, .f32⟩
  | 8 => ⟨S255, .f32⟩
  | 9 => ⟨S3x3x2, .f32⟩
  | 10 => ⟨S1x3x2, .f32⟩
  | 11 => ⟨S3x2, .f32⟩
  | 12 => ⟨S255x16x64x64, .f32⟩
  | 13 => ⟨S16x255x64x64, .f32⟩
  | 14 => ⟨S1x255x1x1, .f32⟩
  | 15 => ⟨S16x255x64x64, .f32⟩
  | 16 => ⟨S16x255x64x64, .f32⟩
  | 17 => ⟨S16x3x85x64x64, .f32⟩
  | 18 => ⟨S16x3x64x64x85, .f32⟩
  | 19 => ⟨S16x3x64x64x2, .f32⟩
  | 20 => ⟨S16x3x64x64x2, .f32⟩
  | 21 => ⟨S16x3x64x64x81, .f32⟩
  | 22 => ⟨S16x3x64x64x2, .f32⟩
  | 23 => ⟨S16x3x64x64x2, .f32⟩
  | 24 => ⟨S_, .f32⟩
  | 25 => ⟨S16x3x64x64x2, .f32⟩
  | 26 => ⟨S16x3x64x64x2, .f32⟩
  | 27 => ⟨S_, .f32⟩
  | 28 => ⟨S16x3x64x64x2, .f32⟩
  | 29 => ⟨S16x3x64x64x2, .f32⟩
  | 30 => ⟨S_, .f32⟩
  | 31 => ⟨S16x3x64x64x2, .f32⟩
  | 32 => ⟨S16x3x64x64x2, .f32⟩
  | 33 => ⟨S_, .f32⟩
  | 34 => ⟨S16x3x64x64x2, .f32⟩
  | 35 => ⟨S16x3x64x64x2, .f32⟩
  | 36 => ⟨S1x3x1x1x2, .f32⟩
  | 37 => ⟨S16x3x64x64x2, .f32⟩
  | 38 => ⟨S16x3x64x64x2, .f32⟩
  | 39 => ⟨S_, .f32⟩
  | 40 => ⟨S16x3x64x64x2, .f32⟩
  | 41 => ⟨S16x3x64x64x2, .f32⟩
  | 42 => ⟨S_, .f32⟩
  | 43 => ⟨S16x3x64x64x2, .f32⟩
  | 44 => ⟨S16x3x64x64x2, .f32⟩
  | 45 => ⟨S_, .f32⟩
  | 46 => ⟨S16x3x64x64x2, .f32⟩
  | 47 => ⟨S16x3x64x64x2, .f32⟩
  | 48 => ⟨S16x3x64x64x2, .f32⟩
  | 49 => ⟨S16x3x64x64x2, .f32⟩
  | 50 => ⟨S16x3x64x64x2, .f32⟩
  | 51 => ⟨S16x3x64x64x85, .f32⟩
  | 52 => ⟨S1x3x2, .f32⟩
  | 53 => ⟨S3x2, .f32⟩
  | 54 => ⟨S255x16x32x32, .f32⟩
  | 55 => ⟨S16x255x32x32, .f32⟩
  | 56 => ⟨S1x255x1x1, .f32⟩
  | 57 => ⟨S16x255x32x32, .f32⟩
  | 58 => ⟨S16x255x32x32, .f32⟩
  | 59 => ⟨S16x3x85x32x32, .f32⟩
  | 60 => ⟨S16x3x32x32x85, .f32⟩
  | 61 => ⟨S16x3x32x32x2, .f32⟩
  | 62 => ⟨S16x3x32x32x2, .f32⟩
  | 63 => ⟨S16x3x32x32x81, .f32⟩
  | 64 => ⟨S16x3x32x32x2, .f32⟩
  | 65 => ⟨S16x3x32x32x2, .f32⟩
  | 66 => ⟨S_, .f32⟩
  | 67 => ⟨S16x3x32x32x2, .f32⟩
  | 68 => ⟨S16x3x32x32x2, .f32⟩
  | 69 => ⟨S_, .f32⟩
  | 70 => ⟨S16x3x32x32x2, .f32⟩
  | 71 => ⟨S16x3x32x32x2, .f32⟩
  | 72 => ⟨S_, .f32⟩
  | 73 => ⟨S16x3x32x32x2, .f32⟩
  | 74 => ⟨S16x3x32x32x2, .f32⟩
  | 75 => ⟨S_, .f32⟩
  | 76 => ⟨S16x3x32x32x2, .f32⟩
  | 77 => ⟨S16x3x32x32x2, .f32⟩
  | 78 => ⟨S1x3x1x1x2, .f32⟩
  | 79 => ⟨S16x3x32x32x2, .f32⟩
  | 80 => ⟨S16x3x32x32x2, .f32⟩
  | 81 => ⟨S_, .f32⟩
  | 82 => ⟨S16x3x32x32x2, .f32⟩
  | 83 => ⟨S16x3x32x32x2, .f32⟩
  | 84 => ⟨S_, .f32⟩
  | 85 => ⟨S16x3x32x32x2, .f32⟩
  | 86 => ⟨S16x3x32x32x2, .f32⟩
  | 87 => ⟨S_, .f32⟩
  | 88 => ⟨S16x3x32x32x2, .f32⟩
  | 89 => ⟨S16x3x32x32x2, .f32⟩
  | 90 => ⟨S16x3x32x32x2, .f32⟩
  | 91 => ⟨S16x3x32x32x2, .f32⟩
  | 92 => ⟨S16x3x32x32x2, .f32⟩
  | 93 => ⟨S16x3x32x32x85, .f32⟩
  | 94 => ⟨S1x3x2, .f32⟩
  | 95 => ⟨S3x2, .f32⟩
  | 96 => ⟨S255x16x16x16, .f32⟩
  | 97 => ⟨S16x255x16x16, .f32⟩
  | 98 => ⟨S1x255x1x1, .f32⟩
  | 99 => ⟨S16x255x16x16, .f32⟩
  | 100 => ⟨S16x255x16x16, .f32⟩
  | 101 => ⟨S16x3x85x16x16, .f32⟩
  | 102 => ⟨S16x3x16x16x85, .f32⟩
  | 103 => ⟨S16x3x16x16x2, .f32⟩
  | 104 => ⟨S16x3x16x16x2, .f32⟩
  | 105 => ⟨S16x3x16x16x81, .f32⟩
  | 106 => ⟨S16x3x16x16x2, .f32⟩
  | 107 => ⟨S16x3x16x16x2, .f32⟩
  | 108 => ⟨S_, .f32⟩
  | 109 => ⟨S16x3x16x16x2, .f32⟩
  | 110 => ⟨S16x3x16x16x2, .f32⟩
  | 111 => ⟨S_, .f32⟩
  | 112 => ⟨S16x3x16x16x2, .f32⟩
  | 113 => ⟨S16x3x16x16x2, .f32⟩
  | 114 => ⟨S_, .f32⟩
  | 115 => ⟨S16x3x16x16x2, .f32⟩
  | 116 => ⟨S16x3x16x16x2, .f32⟩
  | 117 => ⟨S_, .f32⟩
  | 118 => ⟨S16x3x16x16x2, .f32⟩
  | 119 => ⟨S16x3x16x16x2, .f32⟩
  | 120 => ⟨S1x3x1x1x2, .f32⟩
  | 121 => ⟨S16x3x16x16x2, .f32⟩
  | 122 => ⟨S16x3x16x16x2, .f32⟩
  | 123 => ⟨S_, .f32⟩
  | 124 => ⟨S16x3x16x16x2, .f32⟩
  | 125 => ⟨S16x3x16x16x2, .f32⟩
  | 126 => ⟨S_, .f32⟩
  | 127 => ⟨S16x3x16x16x2, .f32⟩
  | _ => ⟨S16x96x64x64, .f32⟩

abbrev hbmTy0_1 (i : Nat) : BufTy := match i % 128 with
  | 0 => ⟨S16x3x16x16x2, .f32⟩
  | 1 => ⟨S_, .f32⟩
  | 2 => ⟨S16x3x16x16x2, .f32⟩
  | 3 => ⟨S16x3x16x16x2, .f32⟩
  | 4 => ⟨S16x3x16x16x2, .f32⟩
  | 5 => ⟨S16x3x16x16x2, .f32⟩
  | 6 => ⟨S16x3x16x16x2, .f32⟩
  | 7 => ⟨S16x3x16x16x85, .f32⟩
  | _ => ⟨S16x96x64x64, .f32⟩

abbrev hbmTy (i : Nat) : BufTy := match i / 128 with
  | 0 => hbmTy0_0 i
  | 1 => hbmTy0_1 i
  | _ => ⟨S16x96x64x64, .f32⟩

abbrev bufTy : (tb : Table) → Fin (tcTables nBuf tb) → BufTy
  | .hbm, ⟨i, _⟩ => hbmTy i
  | _, _ => ⟨S16x96x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_cst_12 : Ref sig .tc := ⟨.hbm, 84, rfl⟩
abbrev main_v62 : Ref sig .tc := ⟨.hbm, 85, rfl⟩
abbrev main_v63 : Ref sig .tc := ⟨.hbm, 86, rfl⟩
abbrev main_cst_13 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_14 : Ref sig .tc := ⟨.hbm, 108, rfl⟩
abbrev main_v84 : Ref sig .tc := ⟨.hbm, 109, rfl⟩
abbrev main_v85 : Ref sig .tc := ⟨.hbm, 110, rfl⟩
abbrev main_cst_15 : Ref sig .tc := ⟨.hbm, 111, rfl⟩
abbrev main_v86 : Ref sig .tc := ⟨.hbm, 112, rfl⟩
abbrev main_v87 : Ref sig .tc := ⟨.hbm, 113, rfl⟩
abbrev main_cst_16 : Ref sig .tc := ⟨.hbm, 114, rfl⟩
abbrev main_v88 : Ref sig .tc := ⟨.hbm, 115, rfl⟩
abbrev main_v89 : Ref sig .tc := ⟨.hbm, 116, rfl⟩
abbrev main_cst_17 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_18 : Ref sig .tc := ⟨.hbm, 123, rfl⟩
abbrev main_v95 : Ref sig .tc := ⟨.hbm, 124, rfl⟩
abbrev main_v96 : Ref sig .tc := ⟨.hbm, 125, rfl⟩
abbrev main_cst_19 : Ref sig .tc := ⟨.hbm, 126, rfl⟩
abbrev main_v97 : Ref sig .tc := ⟨.hbm, 127, rfl⟩
abbrev main_v98 : Ref sig .tc := ⟨.hbm, 128, rfl⟩
abbrev main_cst_20 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩

abbrev nD : Nat := 1
abbrev τ : Topo := Topo.v7x

variable {F : FTy → Type} [FloatOps F]
-- ==== Proof.KernelRun.lean ====
module

public import proofs.«01_k».proof.Proof.Gen.KernelIdeal.Frame

@[expose] public section

/-!
The run of the idealized kernel, read at every buffer of the TensorCore: each ends at the contents that the last
boundary of the generated fold through the three regions gives it.
-/

set_option maxRecDepth 16384

noncomputable section

namespace Cert.KernelIdeal.Head

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the program terminates, and every buffer that outlives the regions ends at the
    contents of the last boundary. -/
theorem run_at_last_boundary : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => fun c => h c)

/-- The same run read at the three results and at the arguments: the results end at what the last boundary holds there,
    the arguments as they were. -/
theorem run_results : θ_run defs (onTc (τ := τ) (main (F := F))) ⟨m, fun _ => 0, ρ⟩ (fun r => ∀ c : Dev nD,
      r.2.mem ((c.tc : Thread nD τ).loc main_v0) = W10 m ρ c (Proc.devRef .tc main_v0)
      ∧ r.2.mem ((c.tc : Thread nD τ).loc main_v1) = W10 m ρ c (Proc.devRef .tc main_v1)
      ∧ r.2.mem ((c.tc : Thread nD τ).loc main_v2) = W10 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
      have a : ∀ b ∈ argRefs, ¬ (Proc.devRef .tc b : DevRef τ sig).isScoped →
          r.2.mem ((c.tc : Thread nD τ).loc b) = m ((c.tc : Thread nD τ).loc b) := fun b hb hs =>
        (h c _ (mem_uc b hs)).trans (W10_args m ρ c b hb)
      ⟨h c _ (mem_uc main_v0 (by decide)), h c _ (mem_uc main_v1 (by decide)), h c _ (mem_uc main_v2 (by decide)),
        a main_arg0 (by decide) (by decide), a main_arg1 (by decide) (by decide), a main_arg2 (by decide) (by decide),
        a main_arg3 (by decide) (by decide), a main_arg4 (by decide) (by decide), a main_arg5 (by decide) (by decide),
        a main_arg6 (by decide) (by decide), a main_arg7 (by decide) (by decide), a main_arg8 (by decide) (by decide)⟩)
    (run_at_last_boundary m ρ)

end Cert.KernelIdeal.Head

end
-- ==== Proof.Maths.lean ====
module

public import Idealize.ShloMosaic.Lib.Pointwise
public import Idealize.ShloMosaic.Lib.IdealHost

@[expose] public section

/-!
The mathematics of the detection head on the extended reals, with no program in sight: what one output channel is
computed from one row of features, and why halving the weights before the product and taking a hyperbolic tangent
after it is the sigmoid of the unhalved product.
-/

noncomputable section

open Idealize.ShloMosaic

namespace Cert.Head

/-- The pattern of the constant one half denotes the real number one half. -/
theorem word_half : Ideal.ofBits .f32 0x3F000000#32 = ((1 / 2 : ℝ) : EReal) := by
  simp [Ideal.ofBits, Ideal.ieee, -EReal.coe_mul]; norm_num

/-- The pattern of the constant two denotes the real number two. -/
theorem word_two : Ideal.ofBits .f32 0x40000000#32 = ((2 : ℝ) : EReal) := by
  simp [Ideal.ofBits, Ideal.ieee, -EReal.coe_mul]; norm_num

/-- A non-negative real factor may be taken out of a sum of products and a bias, whatever infinities stand in them. -/
theorem scaled_sum {n : Nat} (h : ℝ) (h0 : 0 ≤ h) (f w : Fin n → EReal) (b : EReal) :
    (∑ k, f k * (w k * (h : EReal))) + b * (h : EReal) = ((∑ k, w k * f k) + b) * (h : EReal) := by
  have hn : (0 : EReal) ≤ (h : EReal) := by exact_mod_cast h0
  have ht : (h : EReal) ≠ ⊤ := EReal.coe_ne_top h
  have hs : ∀ s : Finset (Fin n), (∑ k ∈ s, f k * (w k * (h : EReal))) = (∑ k ∈ s, w k * f k) * (h : EReal) := by
    intro s
    induction s using Finset.induction_on with
    | empty => simp
    | insert a s ha ih =>
      rw [Finset.sum_insert ha, Finset.sum_insert ha, ih,
        EReal.right_distrib_of_nonneg_of_ne_top hn ht, ← mul_assoc, mul_comm (f a) (w a)]
  rw [hs, EReal.right_distrib_of_nonneg_of_ne_top hn ht]

/-- Twice the sigmoid of `z` is one more than the hyperbolic tangent of half of `z`, at the infinities too. -/
theorem two_sigmoid (z : EReal) :
    ((2 : ℝ) : EReal) * Ideal.logistic z = 1 + Ideal.tanh (z * ((1 / 2 : ℝ) : EReal)) := by
  induction z with
  | bot =>
    rw [EReal.bot_mul_coe_of_pos (by norm_num), Ideal.tanh_bot, Ideal.logistic_bot, mul_zero]
    rw [show (1 : EReal) = ((1 : ℝ) : EReal) from rfl, ← EReal.coe_neg, ← EReal.coe_add]
    norm_num
  | top =>
    rw [EReal.top_mul_coe_of_pos (by norm_num), Ideal.tanh_top, Ideal.logistic_top, mul_one]
    rw [show (1 : EReal) = ((1 : ℝ) : EReal) from rfl, ← EReal.coe_add]
    norm_num
  | coe r =>
    rw [← EReal.coe_mul, Ideal.tanh_coe, Ideal.logistic_coe, ← EReal.coe_mul,
      show (1 : EReal) = ((1 : ℝ) : EReal) from rfl, ← EReal.coe_add, EReal.coe_eq_coe_iff, Real.tanh_eq]
    have p1 := Real.exp_pos (r * (1 / 2))
    rw [show -r = -(r * (1 / 2)) + -(r * (1 / 2)) by ring, Real.exp_add, Real.exp_neg]
    generalize Real.exp (r * (1 / 2)) = e at p1
    field_simp
    ring

/-- Taking one half from twice the sigmoid leaves the hyperbolic tangent of the halved argument plus one half. -/
theorem two_sigmoid_sub_half (z : EReal) :
    ((2 : ℝ) : EReal) * Ideal.logistic z - ((1 / 2 : ℝ) : EReal)
      = Ideal.tanh (z * ((1 / 2 : ℝ) : EReal)) + ((1 / 2 : ℝ) : EReal) := by
  rw [two_sigmoid, sub_eq_add_neg, add_comm 1, add_assoc]
  congr 1
  rw [show (1 : EReal) = ((1 : ℝ) : EReal) from rfl, ← EReal.coe_neg, ← EReal.coe_add]
  norm_num

/-- One output channel `o` of the head from the features `f` under one grid cell, the channel's weights `w` and bias
    `b`, and its factor `s`: the product, then the box centre, the box size or the score itself. -/
def cell {n : Nat} (o : Nat) (f w : Fin n → EReal) (b s : EReal) : EReal :=
  let y := (∑ k, f k * w k) + b
  if o < 2 then Ideal.tanh y + ((1 / 2 : ℝ) : EReal)
  else if o < 4 then (1 + Ideal.tanh y) * (1 + Ideal.tanh y) * s
  else y

/-- The head's channel is determined by the channel, the features, the weights, the bias and the factor. -/
theorem cell_congr {n : Nat} {o o' : Nat} {f f' w w' : Fin n → EReal} {b b' s s' : EReal} (ho : o = o')
    (hf : ∀ k, f k = f' k) (hw : ∀ k, w k = w' k) (hb : b = b') (hs : s = s') :
    cell o f w b s = cell o' f' w' b' s' := by
  rw [ho, funext hf, funext hw, hb, hs]

/-- The head over whole arrays: batch rows `y 0`, anchors `y 1`, grid cells `y 2` and channels `y 3`, from features
    (batch, feature, cell), weights (anchor, feature, channel), and a bias and a factor (anchor, 1, channel). -/
def heads {m n p : Nat} (f : (⟨3, ![m, n, p]⟩ : Shape).Idx → EReal) (w : (⟨3, ![3, n, 85]⟩ : Shape).Idx → EReal)
    (b s : (⟨3, ![3, 1, 85]⟩ : Shape).Idx → EReal) : (⟨4, ![m, 3, p, 85]⟩ : Shape).Idx → EReal := fun y =>
  cell (y 3).val (fun k : Fin n => f (ix3 (y 0) k (y 2))) (fun k => w (ix3 (y 1) k (y 3))) (b (ix3 (y 1) 0 (y 3)))
    (s (ix3 (y 1) 0 (y 3)))

/-- What the problem makes of the product `z` of channel `o`: its sigmoid doubled and shifted for the box centre, doubled,
    squared and scaled by the anchor `s` for the box size, and the product itself for the scores. -/
def decode (o : Nat) (z s : EReal) : EReal :=
  if o < 2 then ((2 : ℝ) : EReal) * Ideal.logistic z - ((1 / 2 : ℝ) : EReal)
  else if o < 4 then ((2 : ℝ) : EReal) * Ideal.logistic z * (((2 : ℝ) : EReal) * Ideal.logistic z) * s
  else z

/-- The same channel as the problem states it, from the unscaled weights. -/
def plain {n : Nat} (o : Nat) (f w : Fin n → EReal) (b s : EReal) : EReal :=
  decode o ((∑ k, w k * f k) + b) s

/-- The factor by which the weights and the bias of channel `o` are scaled before the product. -/
def factor (o : Nat) : ℝ := if o < 4 then 1 / 2 else 1

/-- The head on the scaled weights is the head as the problem states it on the unscaled ones. -/
theorem cell_eq_plain {n : Nat} (o : Nat) (f w : Fin n → EReal) (b s : EReal) :
    cell o f (fun k => w k * (factor o : EReal)) (b * (factor o : EReal)) s = plain o f w b s := by
  unfold cell plain decode
  have h0 : 0 ≤ factor o := by unfold factor; split <;> norm_num
  simp only [scaled_sum (factor o) h0]
  by_cases h2 : o < 2
  · have h4 : o < 4 := by omega
    simp only [h2, if_true, two_sigmoid_sub_half, factor, h4]
  · by_cases h4 : o < 4
    · simp only [h2, h4, if_true, if_false, two_sigmoid, factor]
    · simp only [h2, h4, if_false, factor, EReal.coe_one, mul_one]

/-- The head at a channel depends on the factor only where the channel is one of the two box sizes. -/
theorem plain_congr {n : Nat} (o : Nat) (f w : Fin n → EReal) (b : EReal) {s s' : EReal}
    (h : 2 ≤ o → o < 4 → s = s') : plain o f w b s = plain o f w b s' := by
  unfold plain decode
  by_cases h2 : o < 2
  · simp only [h2, if_true]
  · by_cases h4 : o < 4
    · rw [h (by omega) h4]
    · simp only [h2, h4, if_false]

/-- The row of channel `o` of anchor `a` among the 255 outputs of the product. -/
def row (a : Fin 3) (o : Fin 85) : Fin 255 := ⟨a.val * 85 + o.val, by omega⟩

/-- The three slices of the channels joined again, read at channel `o` of anchor `a`: the problem's channel, over the
    channel's row of the weights `w` and of the bias `b`. -/
theorem ladder {n : Nat} (a : Fin 3) (o : Fin 85) (f : Fin n → EReal) (w : Fin 255 → Fin n → EReal) (b : Fin 255 → EReal)
    (s : Fin 2 → EReal) (h0 : a.val * 85 + o.val < 255) (h1 : a.val * 85 + (2 + (o.val - 2)) < 255)
    (h2 : a.val * 85 + (4 + (o.val - 2 - 2)) < 255) :
    (if _ : o.val < 2 then
        Ideal.ofBits .f32 0x40000000#32 * Ideal.div 1 (1 + Ideal.exp (-((∑ k, w ⟨a.val * 85 + o.val, h0⟩ k * f k)
            + b ⟨a.val * 85 + o.val, h0⟩)))
          - Ideal.ofBits .f32 0x3F000000#32
      else if h : o.val - 2 < 2 then
        Ideal.ofBits .f32 0x40000000#32 * Ideal.div 1 (1 + Ideal.exp (-((∑ k, w ⟨a.val * 85 + (2 + (o.val - 2)), h1⟩ k * f k)
            + b ⟨a.val * 85 + (2 + (o.val - 2)), h1⟩)))
          * (Ideal.ofBits .f32 0x40000000#32 * Ideal.div 1 (1 + Ideal.exp (-((∑ k, w ⟨a.val * 85 + (2 + (o.val - 2)), h1⟩ k * f k)
            + b ⟨a.val * 85 + (2 + (o.val - 2)), h1⟩)))) * s ⟨o.val - 2, h⟩
      else (∑ k, w ⟨a.val * 85 + (4 + (o.val - 2 - 2)), h2⟩ k * f k) + b ⟨a.val * 85 + (4 + (o.val - 2 - 2)), h2⟩)
    = plain o.val f (w (row a o)) (b (row a o)) (s ⟨(o.val - 2) % 2, Nat.mod_lt _ (by decide)⟩) := by
  rw [word_half, word_two]
  unfold plain decode row Ideal.logistic
  by_cases c2 : o.val < 2
  · simp only [c2, if_true, dite_true]
  · have e1 : 2 + (o.val - 2) = o.val := by omega
    by_cases c4 : o.val < 4
    · have c4' : o.val - 2 < 2 := by omega
      have e3 : (o.val - 2) % 2 = o.val - 2 := by omega
      simp only [c2, c4, c4', if_true, if_false, dite_true, dite_false, e1, e3]
    · have c4' : ¬ o.val - 2 < 2 := by omega
      have e2 : 4 + (o.val - 2 - 2) = o.val := by omega
      simp only [c2, c4, c4', if_false, dite_false, e2]

/-- A choice between two numbers by a comparison of a channel with two, or with four, is the choice by that comparison
    of natural numbers. -/
theorem select_channel (o : Fin 85) (x y : EReal) :
    (Scalar.select (IntOp.cmpi .slt (BitVec.ofNat 32 o.val) 2#32) x y = if o.val < 2 then x else y)
    ∧ (Scalar.select (IntOp.cmpi .slt (BitVec.ofNat 32 o.val) 4#32) x y = if o.val < 4 then x else y) := by
  have key : ∀ o : Fin 85, IntOp.cmpi .slt (BitVec.ofNat 32 o.val) 2#32 = (if o.val < 2 then 1#1 else 0#1)
      ∧ IntOp.cmpi .slt (BitVec.ofNat 32 o.val) 4#32 = (if o.val < 4 then 1#1 else 0#1) := by decide +kernel
  rw [(key o).1, (key o).2]
  constructor <;> split <;> rfl

/-- A table of patterns that holds one half for the first four channels and one for the others denotes the factors. -/
theorem word_factor (l : Fin 85 → BitVec 32)
    (h : ∀ o : Fin 85, l o = if o.val < 4 then 0x3F000000#32 else 0x3F800000#32) (o : Fin 85) :
    Ideal.ofBits .f32 (l o) = (factor o.val : EReal) := by
  rw [h o]
  unfold factor
  split
  · exact word_half
  · exact Ideal.ofBits_one_f32.trans EReal.coe_one.symm

end Cert.Head

end
-- ==== Proof.Entry.lean ====
module

public import proofs.«01_k».proof.Proof.Maths
public import proofs.«01_k».proof.Proof.Gen.KernelIdeal.Frame
public import Idealize.ShloMosaic.Lib.Pipeline.ValueKit
public import Idealize.ShloMosaic.Lib.Pointwise
public import Idealize.ShloMosaic.Lib.StableHlo.ReadAt

@[expose] public section

/-!
What the host operations around the three regions compute, read at an index: the features with their grid flattened, the
weights and the bias by anchor and channel with the factors multiplied in, the constant tables of anchors, and the
results with the grid unfolded again.
-/

set_option maxRecDepth 16384

noncomputable section

namespace Cert.KernelIdeal.Head

open Cert.KernelIdeal.Gen Cert.Head
open Idealize.ShloMosaic Idealize.ShloMosaic.TcCoe Idealize.SL.Sem

variable (U : Valuation τ sig (Elt Ideal))

/-- The first region's features, weights and bias, from the level's arguments `f`, `wt` and `bi`. -/
theorem entry0 (f : Vec Ideal S16x96x64x64 .f32) (wt : Vec Ideal S255x96 .f32) (bi : Vec Ideal S255 .f32)
    (hf : U (Proc.devRef .tc main_arg0) = f) (hw : U (Proc.devRef .tc main_arg3) = wt)
    (hb : U (Proc.devRef .tc main_arg4) = bi) :
    (∀ (b : Fin 16) (k : Fin 96) (h w : Fin 64) (hp : h.val * 64 + w.val < 4096),
      StableHlo.after (hostOps0_1 (F := Ideal)) U (Proc.devRef .tc main_call0_v2) (ix3 b k ⟨h.val * 64 + w.val, hp⟩) = f (ix4 b k h w))
    ∧ (∀ (a : Fin 3) (k : Fin 96) (o : Fin 85), StableHlo.after (hostOps0_1 (F := Ideal)) U (Proc.devRef .tc main_call0_v6) (ix3 a k o)
        = wt (ix2 (row a o) k) * (factor o.val : EReal))
    ∧ (∀ (a : Fin 3) (o : Fin 85), StableHlo.after (hostOps0_1 (F := Ideal)) U (Proc.devRef .tc main_call0_v9) (ix3 a 0 o)
        = bi (ix1 (row a o)) * (factor o.val : EReal)) := by
  subst hf hw hb
  refine ⟨fun b k h w hp => ?_, fun a k o => ?_, fun a o => ?_⟩
  · after_reads_at
  · rw [← word_factor (fun o => lit3 (S85.rowMajor (ix1 o))) (by decide +kernel) o]
    after_reads_at
    rfl
  · rw [← word_factor (fun o => lit4 (S85.rowMajor (ix1 o))) (by decide +kernel) o]
    after_reads_at
    rfl

/-- The result of the first level, from the region's output array. -/
theorem result0 (b : Fin 16) (a : Fin 3) (h w : Fin 64) (o : Fin 85) (hp : h.val * 64 + w.val < 4096) :
    StableHlo.after (hostOps1 (F := Ideal)) U (Proc.devRef .tc main_v0) (ix5 b a h w o)
      = U (Proc.devRef .tc main_call0_v10) (ix4 b a ⟨h.val * 64 + w.val, hp⟩ o) := by
  after_reads_at

/-- The second region's features, weights and bias, from the level's arguments `f`, `wt` and `bi`. -/
theorem entry1 (f : Vec Ideal S16x192x32x32 .f32) (wt : Vec Ideal S255x192 .f32) (bi : Vec Ideal S255 .f32)
    (hf : U (Proc.devRef .tc main_arg1) = f) (hw : U (Proc.devRef .tc main_arg5) = wt)
    (hb : U (Proc.devRef .tc main_arg6) = bi) :
    (∀ (b : Fin 16) (k : Fin 192) (h w : Fin 32) (hp : h.val * 32 + w.val < 1024),
      StableHlo.after (hostOps1_1 (F := Ideal)) U (Proc.devRef .tc main_call1_v2) (ix3 b k ⟨h.val * 32 + w.val, hp⟩) = f (ix4 b k h w))
    ∧ (∀ (a : Fin 3) (k : Fin 192) (o : Fin 85), StableHlo.after (hostOps1_1 (F := Ideal)) U (Proc.devRef .tc main_call1_v6) (ix3 a k o)
        = wt (ix2 (row a o) k) * (factor o.val : EReal))
    ∧ (∀ (a : Fin 3) (o : Fin 85), StableHlo.after (hostOps1_1 (F := Ideal)) U (Proc.devRef .tc main_call1_v9) (ix3 a 0 o)
        = bi (ix1 (row a o)) * (factor o.val : EReal)) := by
  subst hf hw hb
  refine ⟨fun b k h w hp => ?_, fun a k o => ?_, fun a o => ?_⟩
  · after_reads_at
  · rw [← word_factor (fun o => lit5 (S85.rowMajor (ix1 o))) (by decide +kernel) o]
    after_reads_at
    rfl
  · rw [← word_factor (fun o => lit6 (S85.rowMajor (ix1 o))) (by decide +kernel) o]
    after_reads_at
    rfl

/-- The result of the second level, from the region's output array. -/
theorem result1 (b : Fin 16) (a : Fin 3) (h w : Fin 32) (o : Fin 85) (hp : h.val * 32 + w.val < 1024) :
    StableHlo.after (hostOps2 (F := Ideal)) U (Proc.devRef .tc main_v1) (ix5 b a h w o)
      = U (Proc.devRef .tc main_call1_v10) (ix4 b a ⟨h.val * 32 + w.val, hp⟩ o) := by
  after_reads_at

/-- The third region's features, weights and bias, from the level's arguments `f`, `wt` and `bi`. -/
theorem entry2 (f : Vec Ideal S16x384x16x16 .f32) (wt : Vec Ideal S255x384 .f32) (bi : Vec Ideal S255 .f32)
    (hf : U (Proc.devRef .tc main_arg2) = f) (hw : U (Proc.devRef .tc main_arg7) = wt)
    (hb : U (Proc.devRef .tc main_arg8) = bi) :
    (∀ (b : Fin 16) (k : Fin 384) (h w : Fin 16) (hp : h.val * 16 + w.val < 256),
      StableHlo.after (hostOps2_1 (F := Ideal)) U (Proc.devRef .tc main_call2_v2) (ix3 b k ⟨h.val * 16 + w.val, hp⟩) = f (ix4 b k h w))
    ∧ (∀ (a : Fin 3) (k : Fin 384) (o : Fin 85), StableHlo.after (hostOps2_1 (F := Ideal)) U (Proc.devRef .tc main_call2_v6) (ix3 a k o)
        = wt (ix2 (row a o) k) * (factor o.val : EReal))
    ∧ (∀ (a : Fin 3) (o : Fin 85), StableHlo.after (hostOps2_1 (F := Ideal)) U (Proc.devRef .tc main_call2_v9) (ix3 a 0 o)
        = bi (ix1 (row a o)) * (factor o.val : EReal)) := by
  subst hf hw hb
  refine ⟨fun b k h w hp => ?_, fun a k o => ?_, fun a o => ?_⟩
  · after_reads_at
  · rw [← word_factor (fun o => lit7 (S85.rowMajor (ix1 o))) (by decide +kernel) o]
    after_reads_at
    rfl
  · rw [← word_factor (fun o => lit8 (S85.rowMajor (ix1 o))) (by decide +kernel) o]
    after_reads_at
    rfl

/-- The result of the third level, from the region's output array. -/
theorem result2 (b : Fin 16) (a : Fin 3) (h w : Fin 16) (o : Fin 85) (hp : h.val * 16 + w.val < 256) :
    StableHlo.after (hostOps3 (F := Ideal)) U (Proc.devRef .tc main_v2) (ix5 b a h w o)
      = U (Proc.devRef .tc main_call2_v10) (ix4 b a ⟨h.val * 16 + w.val, hp⟩ o) := by
  after_reads_at

/-- The three constant tables of anchors, at an index. -/
theorem tables (a : Fin 3) (o : Fin 85) :
    (StableHlo.after (hostOps0 (F := Ideal)) U (Proc.devRef .tc main_cst) (ix3 a 0 o)
        = Ideal.ofBits .f32 (lit0 (S3x1x85.rowMajor (ix3 a 0 o))))
    ∧ (StableHlo.after (hostOps0 (F := Ideal)) U (Proc.devRef .tc main_cst_0) (ix3 a 0 o)
        = Ideal.ofBits .f32 (lit1 (S3x1x85.rowMajor (ix3 a 0 o))))
    ∧ (StableHlo.after (hostOps0 (F := Ideal)) U (Proc.devRef .tc main_cst_1) (ix3 a 0 o)
        = Ideal.ofBits .f32 (lit2 (S3x1x85.rowMajor (ix3 a 0 o)))) := by
  refine ⟨?_, ?_, ?_⟩ <;> after_reads_at

end Cert.KernelIdeal.Head

end
-- ==== Proof.Pieces.lean ====
module

public import proofs.«01_k».proof.Proof.Maths
public import Idealize.ShloMosaic.Lib.Pipeline.ValueKit
public import Idealize.ShloMosaic.Lib.Pointwise

@[expose] public section

/-!
What one store of the kernel's body writes, in terms of the whole block: the head of one batch row `j` and one anchor `a`,
read from the slices that the body loads, is the whole block's head at that row and that anchor.
-/

noncomputable section

open Idealize.ShloMosaic

namespace Cert.Head

/-- The head of one channel over the slices of batch row `j` and anchor `a` is the head over the whole arrays, at the
    place where the store of that row and that anchor puts the channel. -/
theorem piece_at {m n p j a : Nat} (f : Vec Ideal ⟨3, ![m, n, p]⟩ .f32) (w : Vec Ideal ⟨3, ![3, n, 85]⟩ .f32)
    (b s : Vec Ideal ⟨3, ![3, 1, 85]⟩ .f32)
    (hf : ∀ d, (![j, 0, 0] : Fin 3 → Nat) d + (![1, n, p] : Fin 3 → Nat) d ≤ (![m, n, p] : Fin 3 → Nat) d)
    (hw : ∀ d, (![a, 0, 0] : Fin 3 → Nat) d + (![1, n, 85] : Fin 3 → Nat) d ≤ (![3, n, 85] : Fin 3 → Nat) d)
    (hb : ∀ d, (![a, 0, 0] : Fin 3 → Nat) d + (![1, 1, 85] : Fin 3 → Nat) d ≤ (![3, 1, 85] : Fin 3 → Nat) d)
    (hy : ∀ d, (![j, a, 0, 0] : Fin 4 → Nat) d + (![1, 1, p, 85] : Fin 4 → Nat) d ≤ (![m, 3, p, 85] : Fin 4 → Nat) d)
    (x : (⟨4, ![1, 1, p, 85]⟩ : Shape).Idx) :
    cell (x 3).val
        (fun k : Fin n => View.ld f (Rect.unit (s := ⟨3, ![m, n, p]⟩) ![j, 0, 0] ![1, n, p] hf) (ix3 (0 : Fin 1) k (x 2)))
        (fun k => View.ld w (Rect.unit (s := ⟨3, ![3, n, 85]⟩) ![a, 0, 0] ![1, n, 85] hw) (ix3 (0 : Fin 1) k (x 3)))
        (View.ld b (Rect.unit (s := ⟨3, ![3, 1, 85]⟩) ![a, 0, 0] ![1, 1, 85] hb) (ix3 (0 : Fin 1) (0 : Fin 1) (x 3)))
        (View.ld s (Rect.unit (s := ⟨3, ![3, 1, 85]⟩) ![a, 0, 0] ![1, 1, 85] hb) (ix3 (0 : Fin 1) (0 : Fin 1) (x 3)))
      = heads f w b s ((Rect.unit (s := ⟨4, ![m, 3, p, 85]⟩) ![j, a, 0, 0] ![1, 1, p, 85] hy).emb x) := by
  have e : ∀ d, ((Rect.unit (s := ⟨4, ![m, 3, p, 85]⟩) ![j, a, 0, 0] ![1, 1, p, 85] hy).emb x d : Nat)
      = (![j, a, 0, 0] : Fin 4 → Nat) d + (x d : Nat) := fun d => ValueKit.rect_emb_unit_val _ _ hy x d
  have h0 : (x 0 : Nat) = 0 := by have : (x 0 : Nat) < 1 := (x 0).isLt; omega
  have h1 : (x 1 : Nat) = 0 := by have : (x 1 : Nat) < 1 := (x 1).isLt; omega
  have e3 : (x 3 : Nat) = ((Rect.unit (s := ⟨4, ![m, 3, p, 85]⟩) ![j, a, 0, 0] ![1, 1, p, 85] hy).emb x 3 : Nat) := by
    rw [e 3]; simp
  refine cell_congr e3 (fun k => View.ld_unit_apply_of _ _ _ _ _ _ fun d => ?_)
    (fun k => View.ld_unit_apply_of _ _ _ _ _ _ fun d => ?_) (View.ld_unit_apply_of _ _ _ _ _ _ fun d => ?_)
    (View.ld_unit_apply_of _ _ _ _ _ _ fun d => ?_) <;> fin_cases d <;> simp [ix3, h0, h1]

end Cert.Head

end
-- ==== Proof.Level0.lean ====
module

public import proofs.«01_k».proof.Proof.Pieces
public import proofs.«01_k».proof.Proof.Gen.KernelIdeal.Frame

@[expose] public section

/-!
The first level of the head, 96 features over 4096 grid cells: what one grid point leaves in its output block, and what
the whole region leaves in its output array, in terms of the region's input arrays as it finds them.
-/

set_option maxRecDepth 16384

noncomputable section

namespace Cert.KernelIdeal.Head

open Cert.KernelIdeal.Gen Cert.Head
open Idealize.ShloMosaic Idealize.ShloMosaic.TcCoe Idealize.SL.Sem
open Idealize.ShloMosaic.Pipeline (Dat)

/-- What a store writes at an index is the head's channel there, over the loaded slices of the features, the weights, the
    bias and the factor. -/
theorem pay0_at (A : Vec Ideal S1x96x4096 .f32) (W : Vec Ideal S1x96x85 .f32) (B S : Vec Ideal S1x1x85 .f32)
    (x : S1x1x4096x85.Idx) : k0_pay3 A W B S x
      = cell (x 3).val (fun k : Fin 96 => A (ix3 0 k (x 2))) (fun k => W (ix3 0 k (x 3))) (B (ix3 0 0 (x 3)))
          (S (ix3 0 0 (x 3))) := by
  idx_vars x
  pointwise [k0_pay3, k0_pay2, cell, word_half]
  rw [(select_channel _ _ _).1, (select_channel _ _ _).2]

/-- What the stores of one grid point leave in the output block is the head over the point's input blocks. -/
theorem out0_eq (x0 : Vec Ideal S1x96x4096 .f32) (x1 : Vec Ideal S3x96x85 .f32) (x2 x3 : Vec Ideal S3x1x85 .f32) :
    out0_4 x0 x1 x2 x3 = heads x0 x1 x2 x3 := by
  funext y
  unfold_out out0_4
  refine View.canon_apply_of_pieces _ _ ?_ y (cover0_4 _ _ _ y)
  simp only [List.forall_mem_cons, List.not_mem_nil, false_imp_iff, implies_true, and_true]
  refine ⟨?_, ?_, ?_⟩ <;> intro x <;> exact (pay0_at _ _ _ _ x).trans (piece_at x0 x1 x2 x3 _ _ _ _ x)

variable (V : (c : Dev nD) → (b : Ref sig .tc) → Buf (Elt Ideal) ((c : Thread nD τ).loc b))

/-- Which block each window takes at a grid point: the features and the output advance along the batch, the weights, the
    bias and the factor are taken whole. -/
theorem index0 : ∀ t : Fin grid0.N, win0_0.index t = ![t.val, 0, 0] ∧ win0_1.index t = ![0, 0, 0]
    ∧ win0_2.index t = ![0, 0, 0] ∧ win0_3.index t = ![0, 0, 0] ∧ win0_4.index t = ![t.val, 0, 0, 0] := by
  decide +kernel

set_option maxHeartbeats 1000000 in
/-- The region leaves in its output array the head over its input arrays. -/
theorem final0 (c : Dev nD) : (dat0 V c).arrAt 4 cfg0.N
    = heads (V c main_call0_v2) (V c main_call0_v6) (V c main_call0_v9) (V c main_cst) := by
  refine (dat0 V c).arrAt_eq_of_covers 4 _ (by decide +kernel) fun t _ y => ?_
  blk_simp
  rw [after0_4, out0_eq]
  refine cell_congr ?_ (fun k => ?_) (fun k => ?_) ?_ ?_
  · blk_simp [index0 t]
  all_goals blk_ext [iblk0, index0 t]

end Cert.KernelIdeal.Head

end
-- ==== Proof.Level1.lean ====
module

public import proofs.«01_k».proof.Proof.Pieces
public import proofs.«01_k».proof.Proof.Gen.KernelIdeal.Frame

@[expose] public section

/-!
The second level of the head, 192 features over 1024 grid cells: what one grid point leaves in its output block, and what
the whole region leaves in its output array, in terms of the region's input arrays as it finds them.
-/

set_option maxRecDepth 16384

noncomputable section

namespace Cert.KernelIdeal.Head

open Cert.KernelIdeal.Gen Cert.Head
open Idealize.ShloMosaic Idealize.ShloMosaic.TcCoe Idealize.SL.Sem
open Idealize.ShloMosaic.Pipeline (Dat)

/-- What a store writes at an index is the head's channel there, over the loaded slices of the features, the weights, the
    bias and the factor. -/
theorem pay1_at (A : Vec Ideal S1x192x1024 .f32) (W : Vec Ideal S1x192x85 .f32) (B S : Vec Ideal S1x1x85 .f32)
    (x : S1x1x1024x85.Idx) : k1_pay3 A W B S x
      = cell (x 3).val (fun k : Fin 192 => A (ix3 0 k (x 2))) (fun k => W (ix3 0 k (x 3))) (B (ix3 0 0 (x 3)))
          (S (ix3 0 0 (x 3))) := by
  idx_vars x
  pointwise [k1_pay3, k1_pay2, cell, word_half]
  rw [(select_channel _ _ _).1, (select_channel _ _ _).2]

/-- What the stores of one grid point leave in the output block is the head over the point's input blocks. -/
theorem out1_eq (x0 : Vec Ideal S2x192x1024 .f32) (x1 : Vec Ideal S3x192x85 .f32) (x2 x3 : Vec Ideal S3x1x85 .f32) :
    out1_4 x0 x1 x2 x3 = heads x0 x1 x2 x3 := by
  funext y
  unfold_out out1_4
  refine View.canon_apply_of_pieces _ _ ?_ y (cover1_4 _ _ _ _ _ _ y)
  simp only [List.forall_mem_cons, List.not_mem_nil, false_imp_iff, implies_true, and_true]
  refine ⟨?_, ?_, ?_, ?_, ?_, ?_⟩ <;> intro x <;> exact (pay1_at _ _ _ _ x).trans (piece_at x0 x1 x2 x3 _ _ _ _ x)

variable (V : (c : Dev nD) → (b : Ref sig .tc) → Buf (Elt Ideal) ((c : Thread nD τ).loc b))

/-- Which block each window takes at a grid point: the features and the output advance along the batch, the weights, the
    bias and the factor are taken whole. -/
theorem index1 : ∀ t : Fin grid1.N, win1_0.index t = ![t.val, 0, 0] ∧ win1_1.index t = ![0, 0, 0]
    ∧ win1_2.index t = ![0, 0, 0] ∧ win1_3.index t = ![0, 0, 0] ∧ win1_4.index t = ![t.val, 0, 0, 0] := by
  decide +kernel

set_option maxHeartbeats 1000000 in
/-- The region leaves in its output array the head over its input arrays. -/
theorem final1 (c : Dev nD) : (dat1 V c).arrAt 4 cfg1.N
    = heads (V c main_call1_v2) (V c main_call1_v6) (V c main_call1_v9) (V c main_cst_0) := by
  refine (dat1 V c).arrAt_eq_of_covers 4 _ (by decide +kernel) fun t _ y => ?_
  blk_simp
  rw [after1_4, out1_eq]
  refine cell_congr ?_ (fun k => ?_) (fun k => ?_) ?_ ?_
  · blk_simp [index1 t]
  all_goals blk_ext [iblk1, index1 t]

end Cert.KernelIdeal.Head

end
-- ==== Proof.Level2.lean ====
module

public import proofs.«01_k».proof.Proof.Pieces
public import proofs.«01_k».proof.Proof.Gen.KernelIdeal.Frame

@[expose] public section

/-!
The third level of the head, 384 features over 256 grid cells: what one grid point leaves in its output block, and what
the whole region leaves in its output array, in terms of the region's input arrays as it finds them.
-/

set_option maxRecDepth 16384

noncomputable section

namespace Cert.KernelIdeal.Head

open Cert.KernelIdeal.Gen Cert.Head
open Idealize.ShloMosaic Idealize.ShloMosaic.TcCoe Idealize.SL.Sem
open Idealize.ShloMosaic.Pipeline (Dat)

/-- What a store writes at an index is the head's channel there, over the loaded slices of the features, the weights, the
    bias and the factor. -/
theorem pay2_at (A : Vec Ideal S1x384x256 .f32) (W : Vec Ideal S1x384x85 .f32) (B S : Vec Ideal S1x1x85 .f32)
    (x : S1x1x256x85.Idx) : k2_pay3 A W B S x
      = cell (x 3).val (fun k : Fin 384 => A (ix3 0 k (x 2))) (fun k => W (ix3 0 k (x 3))) (B (ix3 0 0 (x 3)))
          (S (ix3 0 0 (x 3))) := by
  idx_vars x
  pointwise [k2_pay3, k2_pay2, cell, word_half]
  rw [(select_channel _ _ _).1, (select_channel _ _ _).2]

/-- What the stores of one grid point leave in the output block is the head over the point's input blocks. -/
theorem out2_eq (x0 : Vec Ideal S8x384x256 .f32) (x1 : Vec Ideal S3x384x85 .f32) (x2 x3 : Vec Ideal S3x1x85 .f32) :
    out2_4 x0 x1 x2 x3 = heads x0 x1 x2 x3 := by
  funext y
  unfold_out out2_4
  refine View.canon_apply_of_pieces _ _ ?_ y (cover2_4 _ _ _ _ _ _ _ _ _ _ _ _ _ _ _ _ _ _ _ _ _ _ _ _ y)
  simp only [List.forall_mem_cons, List.not_mem_nil, false_imp_iff, implies_true, and_true]
  refine ⟨?_, ?_, ?_, ?_, ?_, ?_, ?_, ?_, ?_, ?_, ?_, ?_, ?_, ?_, ?_, ?_, ?_, ?_, ?_, ?_, ?_, ?_, ?_, ?_⟩ <;> intro x <;> exact (pay2_at _ _ _ _ x).trans (piece_at x0 x1 x2 x3 _ _ _ _ x)

variable (V : (c : Dev nD) → (b : Ref sig .tc) → Buf (Elt Ideal) ((c : Thread nD τ).loc b))

/-- Which block each window takes at a grid point: the features and the output advance along the batch, the weights, the
    bias and the factor are taken whole. -/
theorem index2 : ∀ t : Fin grid2.N, win2_0.index t = ![t.val, 0, 0] ∧ win2_1.index t = ![0, 0, 0]
    ∧ win2_2.index t = ![0, 0, 0] ∧ win2_3.index t = ![0, 0, 0] ∧ win2_4.index t = ![t.val, 0, 0, 0] := by
  decide +kernel

set_option maxHeartbeats 1000000 in
/-- The region leaves in its output array the head over its input arrays. -/
theorem final2 (c : Dev nD) : (dat2 V c).arrAt 4 cfg2.N
    = heads (V c main_call2_v2) (V c main_call2_v6) (V c main_call2_v9) (V c main_cst_1) := by
  refine (dat2 V c).arrAt_eq_of_covers 4 _ (by decide +kernel) fun t _ y => ?_
  blk_simp
  rw [after2_4, out2_eq]
  refine cell_congr ?_ (fun k => ?_) (fun k => ?_) ?_ ?_
  · blk_simp [index2 t]
  all_goals blk_ext [iblk2, index2 t]

end Cert.KernelIdeal.Head

end
-- ==== Proof.KernelValue.lean ====
module

public import proofs.«01_k».proof.Proof.KernelRun
public import proofs.«01_k».proof.Proof.Entry
public import proofs.«01_k».proof.Proof.Level0
public import proofs.«01_k».proof.Proof.Level1
public import proofs.«01_k».proof.Proof.Level2

@[expose] public section

/-!
The three results of the idealized kernel, read at an index: the channel of the head as the problem states it, over the
features, the weights and the bias of the level, with the anchor taken from the kernel's own table.
-/

set_option maxRecDepth 16384

noncomputable section

namespace Cert.KernelIdeal.Head

open Cert.KernelIdeal.Gen Cert.Head
open Idealize.ShloMosaic Idealize.ShloMosaic.TcCoe Idealize.SL.Sem

variable (m : (ℓ : Loc nD τ sig) → Buf (Elt Ideal) ℓ) (ρ : Dev nD → PrngReg)

/-- The table of anchors reaches the first region as the constant it was made. -/
theorem scale0 (c : Dev nD) (a : Fin 3) (o : Fin 85) : W2 m ρ c (Proc.devRef .tc main_cst) (ix3 a 0 o)
    = Ideal.ofBits .f32 (lit0 (S3x1x85.rowMajor (ix3 a 0 o))) := by
  have e : W2 m ρ c (Proc.devRef .tc main_cst) = W1 m ρ c (Proc.devRef .tc main_cst) :=
    (W2_of m ρ c main_cst (by decide))
  rw [e]
  exact (tables (W0 m ρ c) a o).1

/-- The kernel's result of the first level, at an index. -/
theorem value0 (c : Dev nD) (f : Vec Ideal S16x96x64x64 .f32) (wt : Vec Ideal S255x96 .f32) (bi : Vec Ideal S255 .f32)
    (hf : m ((c.tc : Thread nD τ).loc main_arg0) = f) (hw : m ((c.tc : Thread nD τ).loc main_arg3) = wt)
    (hb : m ((c.tc : Thread nD τ).loc main_arg4) = bi) (b : Fin 16) (a : Fin 3) (h w : Fin 64) (o : Fin 85) :
    W10 m ρ c (Proc.devRef .tc main_v0) (ix5 b a h w o)
      = plain o.val (fun k => f (ix4 b k h w)) (fun k => wt (ix2 (row a o) k)) (bi (ix1 (row a o)))
          (Ideal.ofBits .f32 (lit0 (S3x1x85.rowMajor (ix3 a 0 o)))) := by
  have hp : h.val * 64 + w.val < 4096 := by omega
  have e : W10 m ρ c (Proc.devRef .tc main_v0) = W4 m ρ c (Proc.devRef .tc main_v0) :=
    (W10_of m ρ c main_v0 (by decide)).trans <| (W9_of m ρ c main_v0 (by decide)).trans <|
      (W8_of m ρ c main_v0 (by decide)).trans <| (W7_of m ρ c main_v0 (by decide)).trans <|
      (W6_of m ρ c main_v0 (by decide)).trans <| W5_of m ρ c main_v0 (by decide)
  rw [e]
  refine (result0 (W3 m ρ c) b a h w o hp).trans ?_
  have r : W3 m ρ c (Proc.devRef .tc main_call0_v10) = _ := (W3_arr m ρ c 4).trans (final0 (V2 m ρ) c)
  rw [r]
  obtain ⟨ef, ew, eb⟩ := entry0 (W1 m ρ c) f wt bi ((W1_args m ρ c main_arg0 (by decide)).trans hf)
    ((W1_args m ρ c main_arg3 (by decide)).trans hw) ((W1_args m ρ c main_arg4 (by decide)).trans hb)
  exact (cell_congr rfl (fun k => ef b k h w hp) (fun k => ew a k o) (eb a o) (scale0 m ρ c a o)).trans
    (cell_eq_plain o.val _ _ _ _)

/-- The table of anchors reaches the second region as the constant it was made. -/
theorem scale1 (c : Dev nD) (a : Fin 3) (o : Fin 85) : W5 m ρ c (Proc.devRef .tc main_cst_0) (ix3 a 0 o)
    = Ideal.ofBits .f32 (lit1 (S3x1x85.rowMajor (ix3 a 0 o))) := by
  have e : W5 m ρ c (Proc.devRef .tc main_cst_0) = W1 m ρ c (Proc.devRef .tc main_cst_0) :=
    (W5_of m ρ c main_cst_0 (by decide)).trans <| (W4_of m ρ c main_cst_0 (by decide)).trans <|
      (W3_of m ρ c main_cst_0 (by decide)).trans <| W2_of m ρ c main_cst_0 (by decide)
  rw [e]
  exact (tables (W0 m ρ c) a o).2.1

/-- The kernel's result of the second level, at an index. -/
theorem value1 (c : Dev nD) (f : Vec Ideal S16x192x32x32 .f32) (wt : Vec Ideal S255x192 .f32) (bi : Vec Ideal S255 .f32)
    (hf : m ((c.tc : Thread nD τ).loc main_arg1) = f) (hw : m ((c.tc : Thread nD τ).loc main_arg5) = wt)
    (hb : m ((c.tc : Thread nD τ).loc main_arg6) = bi) (b : Fin 16) (a : Fin 3) (h w : Fin 32) (o : Fin 85) :
    W10 m ρ c (Proc.devRef .tc main_v1) (ix5 b a h w o)
      = plain o.val (fun k => f (ix4 b k h w)) (fun k => wt (ix2 (row a o) k)) (bi (ix1 (row a o)))
          (Ideal.ofBits .f32 (lit1 (S3x1x85.rowMajor (ix3 a 0 o)))) := by
  have hp : h.val * 32 + w.val < 1024 := by omega
  have e : W10 m ρ c (Proc.devRef .tc main_v1) = W7 m ρ c (Proc.devRef .tc main_v1) :=
    (W10_of m ρ c main_v1 (by decide)).trans <| (W9_of m ρ c main_v1 (by decide)).trans <|
      W8_of m ρ c main_v1 (by decide)
  rw [e]
  refine (result1 (W6 m ρ c) b a h w o hp).trans ?_
  have r : W6 m ρ c (Proc.devRef .tc main_call1_v10) = _ := (W6_arr m ρ c 4).trans (final1 (V5 m ρ) c)
  rw [r]
  obtain ⟨ef, ew, eb⟩ := entry1 (W4 m ρ c) f wt bi ((W4_args m ρ c main_arg1 (by decide)).trans hf)
    ((W4_args m ρ c main_arg5 (by decide)).trans hw) ((W4_args m ρ c main_arg6 (by decide)).trans hb)
  exact (cell_congr rfl (fun k => ef b k h w hp) (fun k => ew a k o) (eb a o) (scale1 m ρ c a o)).trans
    (cell_eq_plain o.val _ _ _ _)

/-- The table of anchors reaches the third region as the constant it was made. -/
theorem scale2 (c : Dev nD) (a : Fin 3) (o : Fin 85) : W8 m ρ c (Proc.devRef .tc main_cst_1) (ix3 a 0 o)
    = Ideal.ofBits .f32 (lit2 (S3x1x85.rowMajor (ix3 a 0 o))) := by
  have e : W8 m ρ c (Proc.devRef .tc main_cst_1) = W1 m ρ c (Proc.devRef .tc main_cst_1) :=
    (W8_of m ρ c main_cst_1 (by decide)).trans <| (W7_of m ρ c main_cst_1 (by decide)).trans <|
      (W6_of m ρ c main_cst_1 (by decide)).trans <| (W5_of m ρ c main_cst_1 (by decide)).trans <|
      (W4_of m ρ c main_cst_1 (by decide)).trans <| (W3_of m ρ c main_cst_1 (by decide)).trans <|
      W2_of m ρ c main_cst_1 (by decide)
  rw [e]
  exact (tables (W0 m ρ c) a o).2.2

/-- The kernel's result of the third level, at an index. -/
theorem value2 (c : Dev nD) (f : Vec Ideal S16x384x16x16 .f32) (wt : Vec Ideal S255x384 .f32) (bi : Vec Ideal S255 .f32)
    (hf : m ((c.tc : Thread nD τ).loc main_arg2) = f) (hw : m ((c.tc : Thread nD τ).loc main_arg7) = wt)
    (hb : m ((c.tc : Thread nD τ).loc main_arg8) = bi) (b : Fin 16) (a : Fin 3) (h w : Fin 16) (o : Fin 85) :
    W10 m ρ c (Proc.devRef .tc main_v2) (ix5 b a h w o)
      = plain o.val (fun k => f (ix4 b k h w)) (fun k => wt (ix2 (row a o) k)) (bi (ix1 (row a o)))
          (Ideal.ofBits .f32 (lit2 (S3x1x85.rowMajor (ix3 a 0 o)))) := by
  have hp : h.val * 16 + w.val < 256 := by omega
  refine (result2 (W9 m ρ c) b a h w o hp).trans ?_
  have r : W9 m ρ c (Proc.devRef .tc main_call2_v10) = _ := (W9_arr m ρ c 4).trans (final2 (V8 m ρ) c)
  rw [r]
  obtain ⟨ef, ew, eb⟩ := entry2 (W7 m ρ c) f wt bi ((W7_args m ρ c main_arg2 (by decide)).trans hf)
    ((W7_args m ρ c main_arg7 (by decide)).trans hw) ((W7_args m ρ c main_arg8 (by decide)).trans hb)
  exact (cell_congr rfl (fun k => ef b k h w hp) (fun k => ew a k o) (eb a o) (scale2 m ρ c a o)).trans
    (cell_eq_plain o.val _ _ _ _)

end Cert.KernelIdeal.Head

end
-- ==== Proof.RefValue.lean ====
module

public import proofs.«01_k».proof.Proof.Maths
public import proofs.«01_k».proof.Proof.Gen.ReferenceIdeal.Run
public import Idealize.ShloMosaic.Lib.Pointwise

@[expose] public section

/-!
The three results of the reference, read at an index: the channel of the head as the problem states it, over the
features, the weights and the bias of the level.
-/

set_option maxRecDepth 16384

noncomputable section

namespace Cert.ReferenceIdeal.Head

open Cert.ReferenceIdeal.Value Cert.Head
open Idealize.ShloMosaic Idealize.ShloMosaic.TcCoe Idealize.SL.Sem

variable (m : (ℓ : Loc nD τ sig) → Buf (Elt Ideal) ℓ)

/-- The anchor by which the two sizes of a box are scaled, at level `l`, anchor `a` and channel `o`. -/
def anchor (l a : Fin 3) (o : Fin 85) : EReal :=
  Ideal.ofBits .f32 (lit0 (S3x3x2.rowMajor (ix3 l a (⟨(o.val - 2) % 2, Nat.mod_lt _ (by decide)⟩ : Fin 2))))

/-- The reference's result of the first level, at an index. -/
theorem ref0 (c : Dev nD) (f : Vec Ideal S16x96x64x64 .f32) (wt : Vec Ideal S255x96 .f32) (bi : Vec Ideal S255 .f32)
    (hf : m ((c.tc : Thread nD τ).loc main_arg0) = f) (hw : m ((c.tc : Thread nD τ).loc main_arg3) = wt)
    (hb : m ((c.tc : Thread nD τ).loc main_arg4) = bi) (b : Fin 16) (a : Fin 3) (h w : Fin 64) (o : Fin 85) :
    res_main_v34 m c (ix5 b a h w o)
      = plain o.val (fun k => f (ix4 b k h w)) (fun k => wt (ix2 (row a o) k)) (bi (ix1 (row a o))) (anchor 0 a o) := by
  have L := ladder a o (fun k => f (ix4 b k h w)) (fun r k => wt (ix2 r k)) (fun r => bi (ix1 r))
    (fun j => Ideal.ofBits .f32 (lit0 (S3x3x2.rowMajor (ix3 0 a j)))) (by omega) (by omega) (by omega)
  unfold res_main_v34
  simp only [hf, hw, hb]
  pointwise
  refine Eq.trans ?_ (L.trans rfl)
  exact dite_congr rfl (fun _ => rfl) fun _ => dite_congr rfl (fun _ => rfl) fun _ => rfl

/-- The reference's result of the second level, at an index. -/
theorem ref1 (c : Dev nD) (f : Vec Ideal S16x192x32x32 .f32) (wt : Vec Ideal S255x192 .f32) (bi : Vec Ideal S255 .f32)
    (hf : m ((c.tc : Thread nD τ).loc main_arg1) = f) (hw : m ((c.tc : Thread nD τ).loc main_arg5) = wt)
    (hb : m ((c.tc : Thread nD τ).loc main_arg6) = bi) (b : Fin 16) (a : Fin 3) (h w : Fin 32) (o : Fin 85) :
    res_main_v69 m c (ix5 b a h w o)
      = plain o.val (fun k => f (ix4 b k h w)) (fun k => wt (ix2 (row a o) k)) (bi (ix1 (row a o))) (anchor 1 a o) := by
  have L := ladder a o (fun k => f (ix4 b k h w)) (fun r k => wt (ix2 r k)) (fun r => bi (ix1 r))
    (fun j => Ideal.ofBits .f32 (lit0 (S3x3x2.rowMajor (ix3 1 a j)))) (by omega) (by omega) (by omega)
  unfold res_main_v69
  simp only [hf, hw, hb]
  pointwise
  refine Eq.trans ?_ (L.trans rfl)
  exact dite_congr rfl (fun _ => rfl) fun _ => dite_congr rfl (fun _ => rfl) fun _ => rfl

/-- The reference's result of the third level, at an index. -/
theorem ref2 (c : Dev nD) (f : Vec Ideal S16x384x16x16 .f32) (wt : Vec Ideal S255x384 .f32) (bi : Vec Ideal S255 .f32)
    (hf : m ((c.tc : Thread nD τ).loc main_arg2) = f) (hw : m ((c.tc : Thread nD τ).loc main_arg7) = wt)
    (hb : m ((c.tc : Thread nD τ).loc main_arg8) = bi) (b : Fin 16) (a : Fin 3) (h w : Fin 16) (o : Fin 85) :
    res_main_v104 m c (ix5 b a h w o)
      = plain o.val (fun k => f (ix4 b k h w)) (fun k => wt (ix2 (row a o) k)) (bi (ix1 (row a o))) (anchor 2 a o) := by
  have L := ladder a o (fun k => f (ix4 b k h w)) (fun r k => wt (ix2 r k)) (fun r => bi (ix1 r))
    (fun j => Ideal.ofBits .f32 (lit0 (S3x3x2.rowMajor (ix3 2 a j)))) (by omega) (by omega) (by omega)
  unfold res_main_v104
  simp only [hf, hw, hb]
  pointwise
  refine Eq.trans ?_ (L.trans rfl)
  exact dite_congr rfl (fun _ => rfl) fun _ => dite_congr rfl (fun _ => rfl) fun _ => rfl

end Cert.ReferenceIdeal.Head

end
-- ==== Proof.Agree.lean ====
module

public import proofs.«01_k».proof.Proof.KernelValue
public import proofs.«01_k».proof.Proof.RefValue

@[expose] public section

/-!
The two programs' results agree where their arguments do: the kernel's tables of anchors hold, at the two sizes of a box,
the anchors of the reference.
-/

set_option maxRecDepth 16384

noncomputable section

namespace Cert.Head

open Cert.ReferenceIdeal.Head Cert.ReferenceIdeal.Value
open Idealize.ShloMosaic Idealize.ShloMosaic.TcCoe Idealize.SL.Sem

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)

/-- An index of five axes is given by its coordinates. -/
theorem coordinates {n0 n1 n2 n3 n4 : Nat} (x : (⟨5, ![n0, n1, n2, n3, n4]⟩ : Shape).Idx) :
    ∃ (b : Fin n0) (a : Fin n1) (h : Fin n2) (w : Fin n3) (o : Fin n4), x = ix5 b a h w o :=
  ⟨x 0, x 1, x 2, x 3, x 4, (ValueIdx.eq_ix5 x).trans (ix5_eq_valueIdx _ _ _ _ _).symm⟩

/-- The first level's table of anchors holds the reference's anchors at the sizes of a box. -/
theorem table0 (a : Fin 3) (o : Fin 85) (h2 : 2 ≤ o.val) (h4 : o.val < 4) :
    Ideal.ofBits .f32 (Cert.KernelIdeal.lit0 (Cert.KernelIdeal.S3x1x85.rowMajor (ix3 a 0 o))) = anchor 0 a o :=
  congrArg (Ideal.ofBits .f32) ((by decide +kernel : ∀ (a : Fin 3) (o : Fin 85), 2 ≤ o.val → o.val < 4 →
    Cert.KernelIdeal.lit0 (Cert.KernelIdeal.S3x1x85.rowMajor (ix3 a 0 o))
      = Cert.ReferenceIdeal.lit0 (Cert.ReferenceIdeal.S3x3x2.rowMajor
          (ix3 0 a (⟨(o.val - 2) % 2, Nat.mod_lt _ (by decide)⟩ : Fin 2)))) a o h2 h4)

/-- The two programs' results of the first level agree where the level's arguments do. -/
theorem agree0 (c : Dev Cert.KernelIdeal.nD)
    (h0 : m' ((c.tc : Thread Cert.ReferenceIdeal.nD Cert.ReferenceIdeal.τ).loc Cert.ReferenceIdeal.main_arg0)
      = (m ((c.tc : Thread Cert.KernelIdeal.nD Cert.KernelIdeal.τ).loc Cert.KernelIdeal.main_arg0) : Vec Ideal Cert.KernelIdeal.S16x96x64x64 .f32))
    (h3 : m' ((c.tc : Thread Cert.ReferenceIdeal.nD Cert.ReferenceIdeal.τ).loc Cert.ReferenceIdeal.main_arg3)
      = (m ((c.tc : Thread Cert.KernelIdeal.nD Cert.KernelIdeal.τ).loc Cert.KernelIdeal.main_arg3) : Vec Ideal Cert.KernelIdeal.S255x96 .f32))
    (h4 : m' ((c.tc : Thread Cert.ReferenceIdeal.nD Cert.ReferenceIdeal.τ).loc Cert.ReferenceIdeal.main_arg4)
      = (m ((c.tc : Thread Cert.KernelIdeal.nD Cert.KernelIdeal.τ).loc Cert.KernelIdeal.main_arg4) : Vec Ideal Cert.KernelIdeal.S255 .f32)) :
    res_main_v34 m' c
      = (Cert.KernelIdeal.Gen.W10 m ρ c (Proc.devRef .tc Cert.KernelIdeal.main_v0) : Vec Ideal Cert.KernelIdeal.S16x3x64x64x85 .f32) := by
  funext x
  obtain ⟨b, a, h, w, o, rfl⟩ := coordinates x
  exact (ref0 m' c _ _ _ h0 h3 h4 b a h w o).trans
    ((plain_congr o.val _ _ _ fun h2 h4 => (table0 a o h2 h4).symm).trans
      (Cert.KernelIdeal.Head.value0 m ρ c _ _ _ rfl rfl rfl b a h w o).symm)

/-- The second level's table of anchors holds the reference's anchors at the sizes of a box. -/
theorem table1 (a : Fin 3) (o : Fin 85) (h2 : 2 ≤ o.val) (h4 : o.val < 4) :
    Ideal.ofBits .f32 (Cert.KernelIdeal.lit1 (Cert.KernelIdeal.S3x1x85.rowMajor (ix3 a 0 o))) = anchor 1 a o :=
  congrArg (Ideal.ofBits .f32) ((by decide +kernel : ∀ (a : Fin 3) (o : Fin 85), 2 ≤ o.val → o.val < 4 →
    Cert.KernelIdeal.lit1 (Cert.KernelIdeal.S3x1x85.rowMajor (ix3 a 0 o))
      = Cert.ReferenceIdeal.lit0 (Cert.ReferenceIdeal.S3x3x2.rowMajor
          (ix3 1 a (⟨(o.val - 2) % 2, Nat.mod_lt _ (by decide)⟩ : Fin 2)))) a o h2 h4)

/-- The two programs' results of the second level agree where the level's arguments do. -/
theorem agree1 (c : Dev Cert.KernelIdeal.nD)
    (h1 : m' ((c.tc : Thread Cert.ReferenceIdeal.nD Cert.ReferenceIdeal.τ).loc Cert.ReferenceIdeal.main_arg1)
      = (m ((c.tc : Thread Cert.KernelIdeal.nD Cert.KernelIdeal.τ).loc Cert.KernelIdeal.main_arg1) : Vec Ideal Cert.KernelIdeal.S16x192x32x32 .f32))
    (h5 : m' ((c.tc : Thread Cert.ReferenceIdeal.nD Cert.ReferenceIdeal.τ).loc Cert.ReferenceIdeal.main_arg5)
      = (m ((c.tc : Thread Cert.KernelIdeal.nD Cert.KernelIdeal.τ).loc Cert.KernelIdeal.main_arg5) : Vec Ideal Cert.KernelIdeal.S255x192 .f32))
    (h6 : m' ((c.tc : Thread Cert.ReferenceIdeal.nD Cert.ReferenceIdeal.τ).loc Cert.ReferenceIdeal.main_arg6)
      = (m ((c.tc : Thread Cert.KernelIdeal.nD Cert.KernelIdeal.τ).loc Cert.KernelIdeal.main_arg6) : Vec Ideal Cert.KernelIdeal.S255 .f32)) :
    res_main_v69 m' c
      = (Cert.KernelIdeal.Gen.W10 m ρ c (Proc.devRef .tc Cert.KernelIdeal.main_v1) : Vec Ideal Cert.KernelIdeal.S16x3x32x32x85 .f32) := by
  funext x
  obtain ⟨b, a, h, w, o, rfl⟩ := coordinates x
  exact (ref1 m' c _ _ _ h1 h5 h6 b a h w o).trans
    ((plain_congr o.val _ _ _ fun h2 h4 => (table1 a o h2 h4).symm).trans
      (Cert.KernelIdeal.Head.value1 m ρ c _ _ _ rfl rfl rfl b a h w o).symm)

/-- The third level's table of anchors holds the reference's anchors at the sizes of a box. -/
theorem table2 (a : Fin 3) (o : Fin 85) (h2 : 2 ≤ o.val) (h4 : o.val < 4) :
    Ideal.ofBits .f32 (Cert.KernelIdeal.lit2 (Cert.KernelIdeal.S3x1x85.rowMajor (ix3 a 0 o))) = anchor 2 a o :=
  congrArg (Ideal.ofBits .f32) ((by decide +kernel : ∀ (a : Fin 3) (o : Fin 85), 2 ≤ o.val → o.val < 4 →
    Cert.KernelIdeal.lit2 (Cert.KernelIdeal.S3x1x85.rowMajor (ix3 a 0 o))
      = Cert.ReferenceIdeal.lit0 (Cert.ReferenceIdeal.S3x3x2.rowMajor
          (ix3 2 a (⟨(o.val - 2) % 2, Nat.mod_lt _ (by decide)⟩ : Fin 2)))) a o h2 h4)

/-- The two programs' results of the third level agree where the level's arguments do. -/
theorem agree2 (c : Dev Cert.KernelIdeal.nD)
    (h2 : m' ((c.tc : Thread Cert.ReferenceIdeal.nD Cert.ReferenceIdeal.τ).loc Cert.ReferenceIdeal.main_arg2)
      = (m ((c.tc : Thread Cert.KernelIdeal.nD Cert.KernelIdeal.τ).loc Cert.KernelIdeal.main_arg2) : Vec Ideal Cert.KernelIdeal.S16x384x16x16 .f32))
    (h7 : m' ((c.tc : Thread Cert.ReferenceIdeal.nD Cert.ReferenceIdeal.τ).loc Cert.ReferenceIdeal.main_arg7)
      = (m ((c.tc : Thread Cert.KernelIdeal.nD Cert.KernelIdeal.τ).loc Cert.KernelIdeal.main_arg7) : Vec Ideal Cert.KernelIdeal.S255x384 .f32))
    (h8 : m' ((c.tc : Thread Cert.ReferenceIdeal.nD Cert.ReferenceIdeal.τ).loc Cert.ReferenceIdeal.main_arg8)
      = (m ((c.tc : Thread Cert.KernelIdeal.nD Cert.KernelIdeal.τ).loc Cert.KernelIdeal.main_arg8) : Vec Ideal Cert.KernelIdeal.S255 .f32)) :
    res_main_v104 m' c
      = (Cert.KernelIdeal.Gen.W10 m ρ c (Proc.devRef .tc Cert.KernelIdeal.main_v2) : Vec Ideal Cert.KernelIdeal.S16x3x16x16x85 .f32) := by
  funext x
  obtain ⟨b, a, h, w, o, rfl⟩ := coordinates x
  exact (ref2 m' c _ _ _ h2 h7 h8 b a h w o).trans
    ((plain_congr o.val _ _ _ fun h2 h4 => (table2 a o h2 h4).symm).trans
      (Cert.KernelIdeal.Head.value2 m ρ c _ _ _ rfl rfl rfl b a h w o).symm)

end Cert.Head

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import Idealize.ShloMosaic.Adequacy
public import Idealize.ShloMosaic.Init

@[expose] public section

noncomputable section

namespace Cert.Proof

open Idealize.ShloMosaic Idealize.SL.Sem Cert.Kernel

/-- Every run of the reference ends with its arguments as they were and every counter at zero. -/
theorem reference_frame : quiescent_ReferenceIdeal (hReferenceIdeal := Cert.ReferenceIdeal.Gen.facts) :=
  fun m ρ _ => (θ_run Cert.ReferenceIdeal.defs _ _).mono
    (fun r h => ⟨fun c => (h c).2.2.2, sem_eq_zero_of_no_sems (by decide) r.2⟩)
    (Cert.ReferenceIdeal.Value.run m ρ)

/-- From equal arguments the idealized kernel and the idealized reference end with equal results. -/
theorem values_agree : algebraic_KernelIdeal_ReferenceIdeal (hKernelIdeal := Cert.KernelIdeal.Gen.facts)
    (hReferenceIdeal := Cert.ReferenceIdeal.Gen.facts) := by
  intro m ρ m' ρ' _ args
  refine ⟨_, _, _, Cert.KernelIdeal.Head.run_results m ρ,
    (θ_run Cert.ReferenceIdeal.defs _ _).mono (fun _ h c => ?_) (Cert.ReferenceIdeal.Value.run (F := Ideal) m' ρ')⟩
  obtain ⟨r0, r1, r2, rest⟩ := h c
  obtain ⟨e0, e1, e2, e3, e4, e5, e6, e7, e8⟩ := args c
  exact ⟨r0.trans (Cert.Head.agree0 m ρ m' c e0 e3 e4), r1.trans (Cert.Head.agree1 m ρ m' c e1 e5 e6),
    r2.trans (Cert.Head.agree2 m ρ m' c e2 e7 e8), rest⟩

/-- The kernel computes the three levels of the detection head, as the reference states them. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial,
    values_agree⟩

end Cert.Proof

end
